-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16384x2048 : Shape := ⟨2, ![16384, 2048]⟩
abbrev S64x2048 : Shape := ⟨2, ![64, 2048]⟩
abbrev S_ : Shape := ⟨0, ![]⟩
abbrev S16384 : Shape := ⟨1, ![16384]⟩
abbrev S16384x1 : Shape := ⟨2, ![16384, 1]⟩
abbrev S64 : Shape := ⟨1, ![64]⟩
abbrev S64x1 : Shape := ⟨2, ![64, 1]⟩
abbrev S2048x64 : Shape := ⟨2, ![2048, 64]⟩
abbrev S16384x64 : Shape := ⟨2, ![16384, 64]⟩

class Facts : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  reducesTo_S64x2048_S64_d1 : S64x2048.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x2048_0_1 : S64x1.BroadcastsInDim S64x2048 (![0, 1] : Fin 2 → Fin S64x2048.rank)
  transposes_S64x2048_S2048x64_1_0 : S64x2048.Transposes [1, 0] S2048x64
  reducesTo_S16384x64_S16384_d1 : S16384x64.ReducesTo [1] S16384
  bcast_S16384x1_S16384x64_0_1 : S16384x1.BroadcastsInDim S16384x64 (![0, 1] : Fin 2 → Fin S16384x64.rank)
  natLt_1_32 : 1 < 32
  bcast_S_S16384 : S_.BroadcastsInDim S16384 (![] : Fin 0 → Fin S16384.rank)
  reducesTo_S16384_S_d0 : S16384.ReducesTo [0] S_
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn_norm {F : FTy → Type} [FloatOps F] (arg0 : FVec F S16384x2048 .f32) : FVec F S16384x1 .f32 :=
  let v0 : FVec F S16384x2048 .f32 := mulf arg0 arg0
  let cst : FVec F S_ .f32 := constant S_ .f32 0x00000000#32
  let v1 : FVec F S16384 .f32 := (fun x v => Host.reduceAdd x v reducesTo_S16384x2048_S16384_d1 h_S_) v0 cst
  let v2 : FVec F S16384x1 .f32 := broadcastInDim S16384x1 ![0] bcast_S16384_S16384x1_0 v1
  let v3 : FVec F S16384x1 .f32 := Host.sqrt v2
  v3

def fn_norm_0 {F : FTy → Type} [FloatOps F] (arg0 : FVec F S64x2048 .f32) : FVec F S64x1 .f32 :=
  let v0 : FVec F S64x2048 .f32 := mulf arg0 arg0
  let cst : FVec F S_ .f32 := constant S_ .f32 0x00000000#32
  let v1 : FVec F S64 .f32 := (fun x v => Host.reduceAdd x v reducesTo_S64x2048_S64_d1 h_S_) v0 cst
  let v2 : FVec F S64x1 .f32 := broadcastInDim S64x1 ![0] bcast_S64_S64x1_0 v1
  let v3 : FVec F S64x1 .f32 := Host.sqrt v2
  v3

def fn_part1 {F : FTy → Type} [FloatOps F] (main_v17 : IVec S16384 32) (main_v18 : IVec S16384 32) : IVec S_ 1 :=
  let main_v19 : IVec S16384 1 := cmpi .eq main_v17 main_v18
  let main_c_3 : IVec S_ 1 := constantI S_ 1 1#1
  let main_v20 : IVec S_ 1 := (fun x v => Host.reduce IntOp.andi x v reducesTo_S16384_S_d0 h_S_) main_v19 main_c_3
  main_v20

def fn {F : FTy → Type} [FloatOps F] (main_arg0 : FVec F S16384x2048 .f32) (main_arg1 : FVec F S64x2048 .f32) : IVec S_ 1 :=
  let main_v0 : FVec F S16384x1 .f32 := fn_norm (F := F) main_arg0
  let main_cst : FVec F S_ .f32 := constant S_ .f32 0x322BCC77#32
  let main_v1 : FVec F S16384x1 .f32 := broadcastInDim S16384x1 ![] bcast_S_S16384x1 main_cst
  let main_v2 : FVec F S16384x1 .f32 := maximumf main_v0 main_v1
  let main_v3 : FVec F S16384x2048 .f32 := broadcastInDim S16384x2048 ![0, 1] bcast_S16384x1_S16384x2048_0_1 main_v2
  let main_v4 : FVec F S16384x2048 .f32 := Host.divf main_arg0 main_v3
  let main_v5 : FVec F S64x1 .f32 := fn_norm_0 (F := F) main_arg1
  let main_cst_0 : FVec F S_ .f32 := constant S_ .f32 0x322BCC77#32
  let main_v6 : FVec F S64x1 .f32 := broadcastInDim S64x1 ![] bcast_S_S64x1 main_cst_0
  let main_v7 : FVec F S64x1 .f32 := maximumf main_v5 main_v6
  let main_v8 : FVec F S64x2048 .f32 := broadcastInDim S64x2048 ![0, 1] bcast_S64x1_S64x2048_0_1 main_v7
  let main_v9 : FVec F S64x2048 .f32 := Host.divf main_arg1 main_v8
  let main_v10 : FVec F S2048x64 .f32 := (transpose S2048x64 [1, 0] · transposes_S64x2048_S2048x64_1_0) main_v9
  let main_v11 : FVec F S16384x64 .f32 := (fun l r => Host.dotGeneral dot_S16384x2048_S2048x64_S16384x64_1_0_0_1_n_n none l r) main_v4 main_v10
  let main_cst_1 : FVec F S_ .f32 := constant S_ .f32 0xFF800000#32
  let main_v12 : FVec F S16384 .f32 := (fun x v => Host.reduce FloatOps.maximumf x v reducesTo_S16384x64_S16384_d1 h_S_) main_v11 main_cst_1
  let main_v13 : FVec F S16384x1 .f32 := broadcastInDim S16384x1 ![0] bcast_S16384_S16384x1_0 main_v12
  let main_v14 : FVec F S16384x64 .f32 := broadcastInDim S16384x64 ![0, 1] bcast_S16384x1_S16384x64_0_1 main_v13
  let main_v15 : IVec S16384x64 1 := cmpf .oeq main_v11 main_v14
  let main_v16 : IVec S16384x64 32 := (extui 32 · natLt_1_32) main_v15
  let main_c : IVec S_ 32 := constantI S_ 32 0#32
  let main_v17 : IVec S16384 32 := (fun x v => Host.reduce IntOp.addi x v reducesTo_S16384x64_S16384_d1 h_S_) main_v16 main_c
  let main_c_2 : IVec S_ 32 := constantI S_ 32 1#32
  let main_v18 : IVec S16384 32 := broadcastInDim S16384 ![] bcast_S_S16384 main_c_2
  fn_part1 (F := F) main_v17 main_v18
-- ==== Kernel.lean ====
abbrev S16384x2048 : Shape := ⟨2, ![16384, 2048]⟩
abbrev S64x2048 : Shape := ⟨2, ![64, 2048]⟩
abbrev S8x8x256 : Shape := ⟨3, ![8, 8, 256]⟩
abbrev S256x2048 : Shape := ⟨2, ![256, 2048]⟩
abbrev S1x8x256 : Shape := ⟨3, ![1, 8, 256]⟩
abbrev S64 : Shape := ⟨1, ![64]⟩
abbrev S64x1 : Shape := ⟨2, ![64, 1]⟩
abbrev S256 : Shape := ⟨1, ![256]⟩
abbrev S256x1 : Shape := ⟨2, ![256, 1]⟩
abbrev S256x64 : Shape := ⟨2, ![256, 64]⟩
abbrev S1x256 : Shape := ⟨2, ![1, 256]⟩
abbrev S8x256 : Shape := ⟨2, ![8, 256]⟩
abbrev S16384x1 : Shape := ⟨2, ![16384, 1]⟩

abbrev nBuf : Space → Nat
  | .hbm => 4
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S8x8x256, .i32⟩
  | .hbm, ⟨3, _⟩ => ⟨S16384x1, .i32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S64x2048, .f32⟩
  | .local _ .vmem, ⟨17, _⟩ => ⟨S1x8x256, .i32⟩
  | .local _ .vmem, ⟨18, _⟩ => ⟨S1x8x256, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x2048 : Shape := ⟨2, ![16384, 2048]⟩
abbrev S64x2048 : Shape := ⟨2, ![64, 2048]⟩
abbrev S_ : Shape := ⟨0, ![]⟩
abbrev S16384 : Shape := ⟨1, ![16384]⟩
abbrev S16384x1 : Shape := ⟨2, ![16384, 1]⟩
abbrev S64 : Shape := ⟨1, ![64]⟩
abbrev S64x1 : Shape := ⟨2, ![64, 1]⟩
abbrev S2048x64 : Shape := ⟨2, ![2048, 64]⟩
abbrev S16384x64 : Shape := ⟨2, ![16384, 64]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x2048, .f32⟩
  | .hbm, ⟨11, _⟩ => ⟨S16384x2048, .f32⟩
  | .hbm, ⟨12, _⟩ => ⟨S64x2048, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S64x1, .f32⟩
  | .hbm, ⟨17, _⟩ => ⟨S_, .f32⟩
  | .hbm, ⟨18, _⟩ => ⟨S64x1, .f32⟩
  | .hbm, ⟨19, _⟩ => ⟨S64x1, .f32⟩
  | .hbm, ⟨20, _⟩ => ⟨S64x2048, .f32⟩
  | .hbm, ⟨21, _⟩ => ⟨S64x2048, .f32⟩
  | .hbm, ⟨22, _⟩ => ⟨S2048x64, .f32⟩
  | .hbm, ⟨23, _⟩ => ⟨S16384x64, .f32⟩
  | .hbm, ⟨24, _⟩ => ⟨S16384x64, .i32⟩
  | .hbm, ⟨25, _⟩ => ⟨S_, .f32⟩
  | .hbm, ⟨26, _⟩ => ⟨S_, .i32⟩
  | .hbm, ⟨27, _⟩ => ⟨S16384, .f32⟩
  | .hbm, ⟨28, _⟩ => ⟨S16384, .i32⟩
  | .hbm, ⟨29, _⟩ => ⟨S16384x1, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v12 : Ref sig .tc := ⟨.hbm, 28, rfl⟩
abbrev main_v13 : Ref sig .tc := ⟨.hbm, 29, rfl⟩

abbrev nD : Nat := 1
abbrev τ : Topo := Topo.v7x

variable {F : FTy → Type} [FloatOps F]
-- ==== Proof.Argmax.lean ====
/- The first position of a row's greatest value, and the two ways the programs compute it: the kernel's
   reduction of a matrix to indices along its columns, and the host's fold over (value, position) pairs. -/
module

public import proofs.«01_k».proof.Proof.Gen.KernelIdeal
public import proofs.«01_k».proof.Proof.Gen.ReferenceIdeal
public import Idealize.ShloMosaic.Lib.Pointwise

@[expose] public section

noncomputable section

namespace Cert.Router

open Idealize.ShloMosaic

/-- The least position at which the row `s` takes its greatest value, as a 32-bit word. -/
def pick {n : ℕ} (s : Fin n → EReal) : BitVec 32 :=
  BitVec.ofNat 32 (((Finset.univ.filter fun k => ∀ k', ¬ s k < s k').image Fin.val).min.getD 0)

/-- A position that holds the greatest value, with no such position before it, is the one picked. -/
theorem pick_eq {n : ℕ} (s : Fin n → EReal) (k : Fin n) (hmax : ∀ c, s c ≤ s k) (hfirst : ∀ c, s c = s k → k ≤ c) :
    pick s = BitVec.ofNat 32 k.val := by
  have hmin : ((Finset.univ.filter fun k => ∀ k', ¬ s k < s k').image Fin.val).min = (k.val : WithTop ℕ) := by
    apply le_antisymm
    · refine Finset.min_le (Finset.mem_image.mpr ⟨k, ?_, rfl⟩)
      simpa using hmax
    · refine Finset.le_min fun a ha => ?_
      obtain ⟨c, hc, rfl⟩ := Finset.mem_image.mp ha
      have hc' : ∀ k', s k' ≤ s c := by simpa using hc
      exact WithTop.coe_le_coe.mpr (hfirst c (le_antisymm (hmax c) (hc' k)))
  rw [pick, hmin]
  rfl

/-- A one-axis index is `ix1 r` as soon as its coordinate is. -/
theorem eq_ix1_iff {R : ℕ} (j : Shape.Idx ⟨1, ![R]⟩) (r : Fin R) : j = ix1 r ↔ j 0 = r := by
  constructor
  · rintro rfl
    rfl
  · intro h
    funext b
    obtain rfl : b = 0 := Subsingleton.elim _ _
    exact h

/-- In a matrix reduced along its columns, the entries that reduce to row `r` are those of row `r`. -/
theorem drop_iff {R n : ℕ} (h : Shape.Reduces ⟨2, ![R, n]⟩ [1] ⟨1, ![R]⟩) (i : Shape.Idx ⟨2, ![R, n]⟩) (r : Fin R) :
    h.drop i = ix1 r ↔ i 0 = r :=
  (eq_ix1_iff _ r).trans (Eq.to_iff (congrArg (· = r) (Fin.ext rfl : (h.drop i 0 : Fin R) = i 0)))

/-- The same for the host's reduction. -/
theorem dropTo_iff {R n : ℕ} (h : Shape.ReducesTo ⟨2, ![R, n]⟩ [1] ⟨1, ![R]⟩) (i : Shape.Idx ⟨2, ![R, n]⟩) (r : Fin R) :
    h.drop i = ix1 r ↔ i 0 = r :=
  (eq_ix1_iff _ r).trans (Eq.to_iff (congrArg (· = r) (Fin.ext rfl : (h.drop i 0 : Fin R) = i 0)))

/-- The kernel's index reduction of a matrix, read at a row. -/
theorem reduceIndex_apply {R n : ℕ} (h : Shape.Reduces ⟨2, ![R, n]⟩ [1] ⟨1, ![R]⟩)
    (x : Shape.Idx ⟨2, ![R, n]⟩ → EReal) (r : Fin R) :
    Ideal.reduceIndex .argMax 1 h x (ix1 r) = pick fun k => x (ix2 r k) := by
  have hx : ∀ i : Shape.Idx ⟨2, ![R, n]⟩, i 0 = r → i = ix2 r (i 1) := by
    intro i hi
    funext a
    fin_cases a
    · exact hi
    · rfl
  unfold Ideal.reduceIndex pick
  simp only [if_true]
  refine congrArg (fun S : Finset ℕ => BitVec.ofNat 32 (S.min.getD 0)) ?_
  ext v
  simp only [Finset.mem_image, Finset.mem_filter, Finset.mem_univ, true_and, drop_iff]
  constructor
  · rintro ⟨i, ⟨hi, hmax⟩, rfl⟩
    refine ⟨i 1, fun k' => ?_, rfl⟩
    have := hmax (ix2 r k') rfl
    rwa [hx i hi] at this
  · rintro ⟨k, hmax, rfl⟩
    refine ⟨ix2 r k, ⟨rfl, fun i' hi' => ?_⟩, rfl⟩
    rw [hx i' hi']
    exact hmax _

/-- The pair `b` is at least as good as `a`: a greater value, or the same value no later. -/
def Below (a b : EReal × BitVec 32) : Prop := a.1 < b.1 ∨ (a.1 = b.1 ∧ b.2.toInt ≤ a.2.toInt)

theorem Below.refl (a : EReal × BitVec 32) : Below a a := Or.inr ⟨rfl, le_rfl⟩

theorem Below.trans {a b c : EReal × BitVec 32} (h : Below a b) (h' : Below b c) : Below a c := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- One step of the host's fold keeps one of the two pairs, and what it keeps is at least as good as both. -/
theorem step_spec (f : EReal × BitVec 32 → EReal × BitVec 32 → EReal × BitVec 32)
    (hf : ∀ a b, f a b = if b.1 < a.1 ∨ (a.1 = b.1 ∧ a.2.toInt < b.2.toInt) then (if b.1 < a.1 then a else (b.1, a.2)) else b)
    (a b : EReal × BitVec 32) : (f a b = a ∨ f a b = b) ∧ Below a (f a b) ∧ Below b (f a b) := by
  rw [hf]
  by_cases h : b.1 < a.1
  · rw [if_pos (Or.inl h), if_pos h]
    exact ⟨Or.inl rfl, Below.refl a, Or.inl h⟩
  · by_cases h' : a.1 = b.1 ∧ a.2.toInt < b.2.toInt
    · have e : (b.1, a.2) = a := Prod.ext h'.1.symm rfl
      rw [if_pos (Or.inr h'), if_neg h, e]
      exact ⟨Or.inl rfl, Below.refl a, Or.inr ⟨h'.1.symm, h'.2.le⟩⟩
    · rw [if_neg (not_or.mpr ⟨h, h'⟩)]
      refine ⟨Or.inr rfl, ?_, Below.refl b⟩
      rcases lt_or_eq_of_le (not_lt.mp h) with hl | he
      · exact Or.inl hl
      · exact Or.inr ⟨he, not_lt.mp fun hlt => h' ⟨he, hlt⟩⟩

/-- The host's reducer, as one choice between the two pairs. -/
theorem reducer_eq (a b : EReal × BitVec 32) :
    Cert.ReferenceIdeal.reducer_argmax_f32_i32 (F := Ideal) a b
      = if b.1 < a.1 ∨ (a.1 = b.1 ∧ a.2.toInt < b.2.toInt) then (if b.1 < a.1 then a else (b.1, a.2)) else b := by
  unfold Cert.ReferenceIdeal.reducer_argmax_f32_i32
  simp only [Ideal.cmpf_def, Ideal.cmp, IntOp.ori, IntOp.andi, IntOp.cmpi, Scalar.select, BitVec.slt]
  by_cases h : b.1 < a.1 <;> by_cases h' : a.1 = b.1 <;> by_cases h'' : a.2.toInt < b.2.toInt <;>
    simp [h, h', h'']

/-- The fold from a pair over a list: the result is one of the pairs met, and at least as good as each. -/
theorem foldl_spec (f : EReal × BitVec 32 → EReal × BitVec 32 → EReal × BitVec 32)
    (hf : ∀ a b, (f a b = a ∨ f a b = b) ∧ Below a (f a b) ∧ Below b (f a b)) :
    ∀ (l : List (EReal × BitVec 32)) (a : EReal × BitVec 32),
      (l.foldl f a = a ∨ l.foldl f a ∈ l) ∧ Below a (l.foldl f a) ∧ ∀ p ∈ l, Below p (l.foldl f a)
  | [], a => ⟨Or.inl rfl, Below.refl a, fun _ h => by simp at h⟩
  | b :: l, a => by
      obtain ⟨hm, h₁, h₂⟩ := foldl_spec f hf l (f a b)
      obtain ⟨hc, ha, hb⟩ := hf a b
      rw [List.foldl_cons]
      refine ⟨?_, ha.trans h₁, fun p hp => ?_⟩
      · rcases hm with hm | hm
        · rw [hm]
          rcases hc with hc | hc
          · exact Or.inl hc
          · exact Or.inr (by rw [hc]; exact List.mem_cons_self ..)
        · exact Or.inr (List.mem_cons_of_mem _ hm)
      · rcases List.mem_cons.mp hp with rfl | hp
        · exact hb.trans h₁
        · exact h₂ p hp

/-- The host's arg-max of a matrix with `n` columns paired with their positions, from the least value at
    position 0, read at a row. -/
theorem argReduce_apply {R n : ℕ} {u : Shape} (h : Shape.ReducesTo ⟨2, ![R, n]⟩ [1] ⟨1, ![R]⟩)
    (hu : 0 < u.numel) (hn : 0 < n) (hn' : n < 2 ^ 31)
    (x : FVec Ideal ⟨2, ![R, n]⟩ .f32) (y : Shape.Idx ⟨2, ![R, n]⟩ → BitVec 32) (ix : u.Idx → Ideal .f32) (iy : u.Idx → BitVec 32)
    (hy : ∀ i, y i = BitVec.ofNat 32 (i 1).val) (hix : ∀ i, ix i = (⊥ : EReal)) (hiy : ∀ i, iy i = 0#32) (r : Fin R) :
    (Host.argReduce (Cert.ReferenceIdeal.reducer_argmax_f32_i32 (F := Ideal)) x y ix iy h hu (ix1 r)).2
      = pick fun k => (x (ix2 r k) : EReal) := by
  rw [Ideal.argReduce_eq_reduce2, Host.reduce2_eq_foldl_fiber, hix, hiy]
  have hint : ∀ k : Fin n, (BitVec.ofNat 32 k.val).toInt = k.val := by
    intro k
    have := k.isLt
    rw [BitVec.toInt_eq_toNat_of_lt] <;> rw [BitVec.toNat_ofNat, Nat.mod_eq_of_lt (by omega)]
    omega
  -- the fiber over row `r` holds exactly the row's entries with their positions
  have hfib : ∀ p : EReal × BitVec 32, p ∈ Host.argReduceFiber (α := EReal) x y h (ix1 r)
      ↔ ∃ k : Fin n, p = (x (ix2 r k), BitVec.ofNat 32 k.val) := by
    intro p
    unfold Host.argReduceFiber
    simp only [List.mem_map, List.mem_filter, List.mem_finRange, true_and, decide_eq_true_eq, dropTo_iff]
    constructor
    · rintro ⟨q, hq, rfl⟩
      refine ⟨((Shape.rowMajor _).symm q) 1, ?_⟩
      rw [hy]
      congr 2
      funext a
      fin_cases a
      · exact hq
      · rfl
    · rintro ⟨k, rfl⟩
      refine ⟨Shape.rowMajor _ (ix2 r k), ?_, ?_⟩
      · rw [Equiv.symm_apply_apply]
        rfl
      · rw [Equiv.symm_apply_apply, hy]
        rfl
  obtain ⟨hm, h₁, h₂⟩ := foldl_spec (Cert.ReferenceIdeal.reducer_argmax_f32_i32 (F := Ideal))
    (fun a b => step_spec _ reducer_eq a b) (Host.argReduceFiber (α := EReal) x y h (ix1 r)) (⊥, 0#32)
  set L := (Host.argReduceFiber (α := EReal) x y h (ix1 r)).foldl
    (Cert.ReferenceIdeal.reducer_argmax_f32_i32 (F := Ideal)) (⊥, 0#32) with hL
  -- the result is an entry of the row with its position
  have hk : ∃ k : Fin n, L = (x (ix2 r k), BitVec.ofNat 32 k.val) := by
    rcases hm with hm | hm
    · refine ⟨⟨0, hn⟩, ?_⟩
      have h0 := h₂ _ ((hfib _).mpr ⟨⟨0, hn⟩, rfl⟩)
      rw [hm] at h0 ⊢
      rcases h0 with h0 | ⟨h0, _⟩
      · exact absurd h0 not_lt_bot
      · exact Prod.ext h0.symm rfl
    · exact (hfib _).mp hm
  obtain ⟨k, hk⟩ := hk
  have hall : ∀ c : Fin n, Below (x (ix2 r c), BitVec.ofNat 32 c.val) (x (ix2 r k), BitVec.ofNat 32 k.val) :=
    fun c => hk ▸ h₂ _ ((hfib _).mpr ⟨c, rfl⟩)
  refine (congrArg Prod.snd hk).trans (pick_eq _ k (fun c => ?_) fun c hc => ?_).symm
  · rcases hall c with h | ⟨h, _⟩
    · exact h.le
    · exact h.le
  · rcases hall c with h | ⟨_, h⟩
    · exact absurd hc h.ne
    · simp only [hint] at h
      exact Fin.le_def.mpr (by exact_mod_cast h)

end Cert.Router

end
-- ==== Proof.RefRun.lean ====
/- The reference's run: its host operations as one list, and the one term they leave in the result. -/
module

public import proofs.«01_k».proof.Proof.Gen.ReferenceIdeal
public import Idealize.ShloMosaic.Lib.StableHlo.Run

@[expose] public section

noncomputable section

namespace Cert.Router.Ref

open Cert.ReferenceIdeal Cert.ReferenceIdeal.Gen Idealize.ShloMosaic Idealize.ShloMosaic.TcCoe Idealize.SL.Sem Idealize.ShloMosaic.StableHlo

variable {F : FTy → Type} [FloatOps F]

/-- The reference's host operations in order; a called function's stand where it is called. -/
abbrev ops : List (HloOp τ sig (Elt F)) :=
  [ TRef.binary (TRef.of (T := ⟨S16384x2048, .f32⟩) main_arg0) (TRef.of (T := ⟨S16384x2048, .f32⟩) main_arg0) (TRef.of (T := ⟨S16384x2048, .f32⟩) main_call0_v0) mulf,
    TRef.nullary (TRef.of (T := ⟨S_, .f32⟩) main_call0_cst) (constant S_ .f32 0x00000000#32),
    TRef.binary (TRef.of (T := ⟨S16384x2048, .f32⟩) main_call0_v0) (TRef.of (T := ⟨S_, .f32⟩) main_call0_cst) (TRef.of (T := ⟨S16384, .f32⟩) main_call0_v1) (fun x v => Host.reduceAdd x v reducesTo_S16384x2048_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v0) Host.sqrt,
    nullary main_cst (constant S_ .f32 0x322BCC77#32),
    unary main_cst main_v1 (broadcastInDim S16384x1 ![] bcast_S_S16384x1 : (⟨S_, .f32⟩ : BufTy).Contents (Elt F) → (⟨S16384x1, .f32⟩ : BufTy).Contents (Elt F)),
    binary main_v0 main_v1 main_v2 (maximumf : (⟨S16384x1, .f32⟩ : BufTy).Contents (Elt F) → (⟨S16384x1, .f32⟩ : BufTy).Contents (Elt F) → (⟨S16384x1, .f32⟩ : BufTy).Contents (Elt F)),
    unary main_v2 main_v3 (broadcastInDim S16384x2048 ![0, 1] bcast_S16384x1_S16384x2048_0_1 : (⟨S16384x1, .f32⟩ : BufTy).Contents (Elt F) → (⟨S16384x2048, .f32⟩ : BufTy).Contents (Elt F)),
    binary main_arg0 main_v3 main_v4 (Host.divf : (⟨S16384x2048, .f32⟩ : BufTy).Contents (Elt F) → (⟨S16384x2048, .f32⟩ : BufTy).Contents (Elt F) → (⟨S16384x2048, .f32⟩ : BufTy).Contents (Elt F)),
    TRef.binary (TRef.of (T := ⟨S64x2048, .f32⟩) main_arg1) (TRef.of (T := ⟨S64x2048, .f32⟩) main_arg1) (TRef.of (T := ⟨S64x2048, .f32⟩) main_call1_v0) mulf,
    TRef.nullary (TRef.of (T := ⟨S_, .f32⟩) main_call1_cst) (constant S_ .f32 0x00000000#32),
    TRef.binary (TRef.of (T := ⟨S64x2048, .f32⟩) main_call1_v0) (TRef.of (T := ⟨S_, .f32⟩) main_call1_cst) (TRef.of (T := ⟨S64, .f32⟩) main_call1_v1) (fun x v => Host.reduceAdd x v reducesTo_S64x2048_S64_d1 h_S_),
    TRef.unary (TRef.of (T := ⟨S64, .f32⟩) main_call1_v1) (TRef.of (T := ⟨S64x1, .f32⟩) main_call1_v2) (broadcastInDim S64x1 ![0] bcast_S64_S64x1_0),
    TRef.unary (TRef.of (T := ⟨S64x1, .f32⟩) main_call1_v2) (TRef.of (T := ⟨S64x1, .f32⟩) main_v5) Host.sqrt,
    nullary main_cst_0 (constant S_ .f32 0x322BCC77#32),
    unary main_cst_0 main_v6 (broadcastInDim S64x1 ![] bcast_S_S64x1 : (⟨S_, .f32⟩ : BufTy).Contents (Elt F) → (⟨S64x1, .f32⟩ : BufTy).Contents (Elt F)),
    binary main_v5 main_v6 main_v7 (maximumf : (⟨S64x1, .f32⟩ : BufTy).Contents (Elt F) → (⟨S64x1, .f32⟩ : BufTy).Contents (Elt F) → (⟨S64x1, .f32⟩ : BufTy).Contents (Elt F)),
    unary main_v7 main_v8 (broadcastInDim S64x2048 ![0, 1] bcast_S64x1_S64x2048_0_1 : (⟨S64x1, .f32⟩ : BufTy).Contents (Elt F) → (⟨S64x2048, .f32⟩ : BufTy).Contents (Elt F)),
    binary main_arg1 main_v8 main_v9 (Host.divf : (⟨S64x2048, .f32⟩ : BufTy).Contents (Elt F) → (⟨S64x2048, .f32⟩ : BufTy).Contents (Elt F) → (⟨S64x2048, .f32⟩ : BufTy).Contents (Elt F)),
    unary main_v9 main_v10 ((transpose S2048x64 [1, 0] · transposes_S64x2048_S2048x64_1_0) : (⟨S64x2048, .f32⟩ : BufTy).Contents (Elt F) → (⟨S2048x64, .f32⟩ : BufTy).Contents (Elt F)),
    binary main_v4 main_v10 main_v11 ((fun l r => Host.dotGeneral dot_S16384x2048_S2048x64_S16384x64_1_0_0_1_n_n none l r) : (⟨S16384x2048, .f32⟩ : BufTy).Contents (Elt F) → (⟨S2048x64, .f32⟩ : BufTy).Contents (Elt F) → (⟨S16384x64, .f32⟩ : BufTy).Contents (Elt F)),
    TRef.nullary (TRef.of (T := ⟨S16384x64, .i32⟩) main_call2_v0) (iotaInDim S16384x64 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16384x64, .f32⟩) main_v11) (TRef.of (T := ⟨S16384x64, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmax_f32_i32 x y u v reducesTo_S16384x64_S16384_d1 h_S_ j).1),
    TRef.quaternary (TRef.of (T := ⟨S16384x64, .f32⟩) main_v11) (TRef.of (T := ⟨S16384x64, .i32⟩) main_call2_v0) (TRef.of (T := ⟨S_, .f32⟩) main_call2_cst) (TRef.of (T := ⟨S_, .i32⟩) main_call2_c) (TRef.of (T := ⟨S16384, .i32⟩) main_v12) (fun x y u v j => (Host.argReduce reducer_argmax_f32_i32 x y u v reducesTo_S16384x64_S16384_d1 h_S_ j).2),
    unary main_v12 main_v13 (broadcastInDim S16384x1 ![0] bcast_S16384_S16384x1_0 : (⟨S16384, .i32⟩ : BufTy).Contents (Elt F) → (⟨S16384x1, .i32⟩ : BufTy).Contents (Elt F)) ]

/-- The reference is that list, run in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
/-- Every operation reads and writes the device's own buffers. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub ..⟩

/-- The tokens' rows divided by their norms. -/
def tokens (h : FVec F S16384x2048 .f32) : FVec F S16384x2048 .f32 :=
  Host.divf h (broadcastInDim S16384x2048 ![0, 1] bcast_S16384x1_S16384x2048_0_1
    (maximumf (Host.sqrt (broadcastInDim S16384x1 ![0] bcast_S16384_S16384x1_0
        (Host.reduceAdd (mulf h h) (constant S_ .f32 0x00000000#32) reducesTo_S16384x2048_S16384_d1 h_S_)))
      (broadcastInDim S16384x1 ![] bcast_S_S16384x1 (constant S_ .f32 0x322BCC77#32))))

/-- The experts' rows divided by their norms. -/
def experts (A : FVec F S64x2048 .f32) : FVec F S64x2048 .f32 :=
  Host.divf A (broadcastInDim S64x2048 ![0, 1] bcast_S64x1_S64x2048_0_1
    (maximumf (Host.sqrt (broadcastInDim S64x1 ![0] bcast_S64_S64x1_0
        (Host.reduceAdd (mulf A A) (constant S_ .f32 0x00000000#32) reducesTo_S64x2048_S64_d1 h_S_)))
      (broadcastInDim S64x1 ![] bcast_S_S64x1 (constant S_ .f32 0x322BCC77#32))))

/-- Every token's score with every expert. -/
def scores (h : FVec F S16384x2048 .f32) (A : FVec F S64x2048 .f32) : FVec F S16384x64 .f32 :=
  Host.dotGeneral dot_S16384x2048_S2048x64_S16384x64_1_0_0_1_n_n none (tokens h)
    (transpose S2048x64 [1, 0] (experts A) transposes_S64x2048_S2048x64_1_0)

/-- Each token's best expert, as a column. -/
def answer (h : FVec F S16384x2048 .f32) (A : FVec F S64x2048 .f32) : IVec S16384x1 32 :=
  broadcastInDim S16384x1 ![0] bcast_S16384_S16384x1_0 fun j =>
    (Host.argReduce reducer_argmax_f32_i32 (scores h A) (iotaInDim S16384x64 32 1) (constant S_ .f32 0xFF800000#32)
      (constantI S_ 32 0#32) reducesTo_S16384x64_S16384_d1 h_S_ j).2

set_option maxHeartbeats 2000000 in
/-- Every weakly fair execution of the reference ends with `answer` of its arguments in the result and
    the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v13)
        = answer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v13).trans (by simp only [ops, TRef.binary, TRef.nullary, TRef.unary, TRef.quaternary, TRef.toBuf, TRef.ofBuf, cast_eq]; after_results; rfl),
      (h c main_arg0).trans (by simp only [ops, TRef.binary, TRef.nullary, TRef.unary, TRef.quaternary, TRef.toBuf, TRef.ofBuf, cast_eq]; after_results),
      (h c main_arg1).trans (by simp only [ops, TRef.binary, TRef.nullary, TRef.unary, TRef.quaternary, TRef.toBuf, TRef.ofBuf, cast_eq]; after_results)⟩)
    (run_seq scopedRefs_eq scopedSems_eq defs main (fun _ => ops) main_eq (fun _ => ops_sub) m ρ)

end Cert.Router.Ref

end
-- ==== Proof.Score.lean ====
/- The score of a token with an expert, and the two programs' answers as the first best score of each row. -/
module

public import proofs.«01_k».proof.Proof.Argmax
public import proofs.«01_k».proof.Proof.RefRun
public import proofs.«01_k».proof.Proof.Gen.KernelIdeal.Skeleton

@[expose] public section

noncomputable section

namespace Cert.Router

open Idealize.ShloMosaic

/-- The length a row is divided by: its Euclidean norm, or the small constant where the norm is less. -/
def norm {n : ℕ} (x : Fin n → EReal) : EReal :=
  max (Ideal.sqrt (∑ e, x e * x e)) (Ideal.ofBits .f32 0x322BCC77#32)

/-- The inner product of two rows, each divided by its length. -/
def score {n : ℕ} (x y : Fin n → EReal) : EReal :=
  ∑ d, Ideal.div (x d) (norm x) * Ideal.div (y d) (norm y)

/-- The expert of the token `x`: the first row of `A` with the greatest score. -/
def expert {n e : ℕ} (A : Fin e → Fin n → EReal) (x : Fin n → EReal) : BitVec 32 :=
  pick fun k => score x (A k)

/-- The reference's scores at an entry. -/
theorem ref_scores (h : FVec Ideal Cert.ReferenceIdeal.S16384x2048 .f32) (A : FVec Ideal Cert.ReferenceIdeal.S64x2048 .f32)
    (i : Fin 16384) (k : Fin 64) :
    Ref.scores h A (ix2 i k) = score (fun d => h (ix2 i d)) (fun d => A (ix2 k d)) := by
  pointwise [Ref.scores, Ref.tokens, Ref.experts, score, norm]

/-- The word the host's fold starts from is the least extended real. -/
theorem start_bot : Ideal.ofBits .f32 0xFF800000#32 = (⊥ : EReal) := by
  simp [Ideal.ofBits, Ideal.ieee]

/-- The reference's starting value. -/
theorem start_apply (i : Cert.ReferenceIdeal.S_.Idx) :
    constant (F := Ideal) Cert.ReferenceIdeal.S_ .f32 0xFF800000#32 i = (⊥ : EReal) := by
  simp only [constant_apply, Ideal.ofBits_def]
  exact start_bot

/-- The positions the host's fold carries along a row. -/
theorem position_apply (i : Cert.ReferenceIdeal.S16384x64.Idx) :
    iotaInDim Cert.ReferenceIdeal.S16384x64 32 1 i = BitVec.ofNat 32 (i 1).val := rfl

/-- A vector stood up as a column, at an entry. -/
theorem column_apply (f : IVec Cert.ReferenceIdeal.S16384 32) (i : Fin 16384) (z : Fin 1) :
    broadcastInDim Cert.ReferenceIdeal.S16384x1 ![0] Cert.ReferenceIdeal.Facts₀.bcast_S16384_S16384x1_0 f (ix2 i z) = f (ix1 i) := by
  pointwise

/-- The reference's answer at a token. -/
theorem ref_answer (h : FVec Ideal Cert.ReferenceIdeal.S16384x2048 .f32) (A : FVec Ideal Cert.ReferenceIdeal.S64x2048 .f32)
    (i : Fin 16384) (z : Fin 1) :
    Ref.answer h A (ix2 i z) = expert (fun k d => A (ix2 k d)) (fun d => h (ix2 i d)) := by
  refine (column_apply _ i z).trans ((argReduce_apply _ _ (by decide) (by decide) _ _ _ _ position_apply start_apply
    (fun _ => rfl) i).trans ?_)
  unfold expert
  simp only [ref_scores]

/-- One block of tokens against the experts, as the kernel computes it, at a token. -/
theorem block_answer (A : Vec Ideal Cert.KernelIdeal.S64x2048 .f32) (h : Vec Ideal Cert.KernelIdeal.S256x2048 .f32) (r : Fin 256) :
    Cert.KernelIdeal.Gen.k0_pay3 A h (ix1 r) = expert (fun k d => A (ix2 k d)) (fun d => h (ix2 r d)) := by
  refine (reduceIndex_apply _ _ r).trans ?_
  unfold expert
  congr 1
  funext k
  pointwise [Cert.KernelIdeal.Gen.k0_pay2, score, norm]

end Cert.Router

end
-- ==== Proof.Block.lean ====
/- What one grid point of the kernel writes: for each of its eight streams of tokens, every token's expert. -/
module

public import proofs.«01_k».proof.Proof.Score
public import proofs.«01_k».proof.Proof.Gen.KernelIdeal.Frame
public import Idealize.ShloMosaic.Lib.Pipeline.ValueKit

@[expose] public section

set_option maxRecDepth 16384

noncomputable section

namespace Cert.Router

open Idealize.ShloMosaic Cert.KernelIdeal Cert.KernelIdeal.Gen

/-- Eight vectors of words, one above the other, in one block. -/
def stacked (f : Fin 8 → IVec S256 32) : IVec S1x8x256 32 :=
  shapeCast S1x8x256 (concatenate S8x256 0
    [⟨S1x256, shapeCast S1x256 (f 0) shapeCasts_S256_S1x256⟩, ⟨S1x256, shapeCast S1x256 (f 1) shapeCasts_S256_S1x256⟩,
      ⟨S1x256, shapeCast S1x256 (f 2) shapeCasts_S256_S1x256⟩, ⟨S1x256, shapeCast S1x256 (f 3) shapeCasts_S256_S1x256⟩,
      ⟨S1x256, shapeCast S1x256 (f 4) shapeCasts_S256_S1x256⟩, ⟨S1x256, shapeCast S1x256 (f 5) shapeCasts_S256_S1x256⟩,
      ⟨S1x256, shapeCast S1x256 (f 6) shapeCasts_S256_S1x256⟩, ⟨S1x256, shapeCast S1x256 (f 7) shapeCasts_S256_S1x256⟩]
    concatenates_S1x256_S1x256_S1x256_S1x256_S1x256_S1x256_S1x256_S1x256_S8x256_d0) shapeCasts_S8x256_S1x8x256

/-- Row `s` of the stack is the `s`-th vector. -/
theorem stacked_apply (f : Fin 8 → IVec S256 32) (z : Fin 1) (s : Fin 8) (r : Fin 256) :
    stacked f (ix3 z s r) = f s (ix1 r) := by
  pointwise [stacked]
  fin_vals s with hs
  all_goals
    simp only [hs, Nat.reduceSub, Nat.reduceLT, ↓reduceDIte]
    exact congrArg (fun q => f q (ix1 r)) (Fin.ext hs.symm)

/-- The second stream is computed as the first is, -/
theorem pay4_eq (A : Vec Ideal S64x2048 .f32) (x : Vec Ideal S256x2048 .f32) : k0_pay4 A x = k0_pay3 A x := rfl
/-- and the third, -/
theorem pay6_eq (A : Vec Ideal S64x2048 .f32) (x : Vec Ideal S256x2048 .f32) :
    k0_pay6 (k0_pay2 A) (k0_pay5 x) (constant S256x64 .f32 0x00000000#32) = k0_pay3 A x := rfl
/-- the fourth, -/
theorem pay7_eq (A : Vec Ideal S64x2048 .f32) (x : Vec Ideal S256x2048 .f32) : k0_pay7 (k0_pay2 A) x = k0_pay3 A x := rfl
/-- the fifth, -/
theorem pay8_eq (A : Vec Ideal S64x2048 .f32) (x : Vec Ideal S256x2048 .f32) : k0_pay8 (k0_pay2 A) x = k0_pay3 A x := rfl
/-- the sixth, -/
theorem pay9_eq (A : Vec Ideal S64x2048 .f32) (x : Vec Ideal S256x2048 .f32) : k0_pay9 (k0_pay2 A) x = k0_pay3 A x := rfl

/-- the seventh and the eighth, which are computed where the eight are stacked. -/
theorem pay1_eq (A : Vec Ideal S64x2048 .f32) (v : Fin 6 → IVec S256 32) (x y : Vec Ideal S256x2048 .f32) :
    k0_pay1 (k0_pay2 A) (v 0) (v 1) (v 2) (v 3) (v 4) (v 5) x (k0_pay10 x) k0_pay11 y
      = stacked ![v 0, v 1, v 2, v 3, v 4, v 5, k0_pay3 A x, k0_pay3 A y] := by
  unfold k0_pay1 k0_pay10 k0_pay11 stacked k0_pay3
  rfl

/-- The block written is the stack of the eight streams' answers. -/
theorem out_eq (x : Fin 8 → Vec Ideal S256x2048 .f32) (A : Vec Ideal S64x2048 .f32) :
    out0_9 (x 0) (x 1) (x 2) (x 3) (x 4) (x 5) (x 6) (x 7) A = stacked fun s => k0_pay3 A (x s) := by
  have e (s : Fin 8) : View.ld (x s) r0_1 = x s := View.ld_unit_zero (by decide) _ _
  have eA : View.ld A r0_0 = A := View.ld_unit_zero (by decide) _ _
  unfold out0_9 k0_pay12
  rw [View.canon_unit_zero (by decide), eA]
  simp only [e]
  rw [pay4_eq, pay6_eq, pay7_eq, pay8_eq, pay9_eq]
  refine (pay1_eq A (fun i => k0_pay3 A (x (i.castLE (by decide)))) (x 6) (x 7)).trans (congrArg stacked ?_)
  funext s
  fin_cases s <;> rfl

end Cert.Router

end
-- ==== Proof.Launch.lean ====
/- The kernel's run: what its grid leaves in the blocked array, and the column it is reshaped into. -/
module

public import proofs.«01_k».proof.Proof.Block

@[expose] public section

set_option maxRecDepth 16384

noncomputable section

namespace Cert.Router

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The tokens, as launched. -/
abbrev toks (c : Dev nD) : S16384x2048.Idx → EReal := m ((c : Thread nD τ).loc main_arg0)

/-- The experts, as launched. -/
abbrev exps (c : Dev nD) : S64x2048.Idx → EReal := m ((c : Thread nD τ).loc main_arg1)

/-- The expert of token `n`. -/
def chosen (c : Dev nD) (n : Fin 16384) : BitVec 32 :=
  expert (fun k d => exps m c (ix2 k d)) (fun d => toks m c (ix2 n d))

/-- The token at row `r` of stream `s` of grid point `t`. -/
def token (t : Fin 8) (s : Fin 8) (r : Fin 256) : Fin 16384 := ⟨(t.val * 8 + s.val) * 256 + r.val, by omega⟩

/-- The eight blocks of tokens that point `t` reads. -/
def streams (c : Dev nD) (t : Fin cfg0.N) : Fin 8 → Vec Ideal S256x2048 .f32 :=
  ![iblk m c 0 t, iblk m c 1 t, iblk m c 2 t, iblk m c 3 t, iblk m c 4 t, iblk m c 5 t, iblk m c 6 t, iblk m c 7 t]

/-- Where the windows stand at point `t`. -/
theorem idx : ∀ t : Fin cfg0.N,
    (win0_0.index t = ![8 * t.val, 0] ∧ win0_1.index t = ![8 * t.val + 1, 0] ∧ win0_2.index t = ![8 * t.val + 2, 0]
      ∧ win0_3.index t = ![8 * t.val + 3, 0] ∧ win0_4.index t = ![8 * t.val + 4, 0] ∧ win0_5.index t = ![8 * t.val + 5, 0]
      ∧ win0_6.index t = ![8 * t.val + 6, 0] ∧ win0_7.index t = ![8 * t.val + 7, 0])
      ∧ win0_8.index t = ![0, 0] ∧ win0_9.index t = ![t.val, 0, 0] := by
  decide +kernel

/-- Row `r` of stream `s` at point `t` is that token's row. -/
theorem streams_apply (c : Dev nD) (t : Fin cfg0.N) (s : Fin 8) (r : Fin 256) (d : Fin 2048) :
    streams m c t s (ix2 r d) = toks m c (ix2 (token ⟨t.val, t.isLt.trans_eq N_0⟩ s r) d) := by
  obtain ⟨⟨h0, h1, h2, h3, h4, h5, h6, h7⟩, -⟩ := idx t
  fin_cases s
  · show iblk m c 0 t (ix2 r d) = _
    blk_ext [iblk, V, token, h0]
  · show iblk m c 1 t (ix2 r d) = _
    blk_ext [iblk, V, token, h1]
  · show iblk m c 2 t (ix2 r d) = _
    blk_ext [iblk, V, token, h2]
  · show iblk m c 3 t (ix2 r d) = _
    blk_ext [iblk, V, token, h3]
  · show iblk m c 4 t (ix2 r d) = _
    blk_ext [iblk, V, token, h4]
  · show iblk m c 5 t (ix2 r d) = _
    blk_ext [iblk, V, token, h5]
  · show iblk m c 6 t (ix2 r d) = _
    blk_ext [iblk, V, token, h6]
  · show iblk m c 7 t (ix2 r d) = _
    blk_ext [iblk, V, token, h7]

/-- Every point reads all the experts. -/
theorem experts_apply (c : Dev nD) (t : Fin cfg0.N) (k : Fin 64) (d : Fin 2048) :
    (iblk m c 8 t : Vec Ideal S64x2048 .f32) (ix2 k d) = exps m c (ix2 k d) := by
  obtain ⟨-, h8, -⟩ := idx t
  blk_ext [iblk, V, h8]

/-- The blocked array the grid leaves: every token's expert at the token's place. -/
def blocked (c : Dev nD) : S8x8x256.Idx → BitVec 32 := fun i => chosen m c (token (i 0) (i 1) (i 2))

/-- What point `t` leaves in its block. -/
theorem block_apply (c : Dev nD) (t : Fin cfg0.N) (z : Fin 1) (s : Fin 8) (r : Fin 256) :
    ((dats m 0 c).after 9 t : IVec S1x8x256 32) (ix3 z s r) = chosen m c (token ⟨t.val, t.isLt.trans_eq N_0⟩ s r) := by
  rw [after0_9]
  refine (congrFun (out_eq (streams m c t) (iblk m c 8 t)) _).trans ?_
  rw [stacked_apply, block_answer]
  unfold chosen
  simp only [streams_apply, experts_apply]

/-- A position in a block's array, from its place in point `t`'s block. -/
theorem blocked_apply (c : Dev nD) (t : Fin 8) (i : S8x8x256.Idx) (s : Fin 8) (r : Fin 256) (h0 : (i 0).val = t.val)
    (h1 : (i 1).val = s.val) (h2 : (i 2).val = r.val) : blocked m c i = chosen m c (token t s r) := by
  unfold blocked
  rw [show i 0 = t from Fin.ext h0, show i 1 = s from Fin.ext h1, show i 2 = r from Fin.ext h2]

/-- The array after the grid. -/
theorem arr_eq (c : Dev nD) : (dats m 0 c).arrAt 9 cfg0.N = blocked m c := by
  refine (dats m 0 c).arrAt_eq_of_covers 9 _ (by decide +kernel) fun t hf y => ?_
  obtain ⟨-, -, h9⟩ := idx t
  have hy : ∀ y' : S1x8x256.Idx, y' = ix3 (y' 0) (y' 1) (y' 2) := by
    intro y'
    funext a
    fin_cases a <;> rfl
  have hb : ((dats m 0 c).after 9 t : IVec S1x8x256 32) y = chosen m c (token ⟨t.val, t.isLt.trans_eq N_0⟩ (y 1) (y 2)) :=
    (congrArg ((dats m 0 c).after 9 t : IVec S1x8x256 32) (hy y)).trans (block_apply m c t (y 0) (y 1) (y 2))
  have h0 : (y 0).val < 1 := (y 0).isLt
  refine Eq.trans ?_ (hb.trans (blocked_apply m c _ _ (y 1) (y 2) ?_ ?_ ?_).symm)
  all_goals blk_simp [h9]

/-- The column the blocked array is reshaped into. -/
def column (c : Dev nD) : S16384x1.Idx → BitVec 32 := fun i => chosen m c (i 0)

/-- Reshaping puts every token's expert at the token's row. -/
theorem reshape_eq (c : Dev nD) :
    shapeCast S16384x1 (blocked m c : IVec S8x8x256 32) shapeCasts_S8x8x256_S16384x1 = column m c := by
  funext i
  idx_vars i
  pointwise [blocked, column]
  refine congrArg (chosen m c) (Fin.ext ?_)
  simp only [token]
  omega

/-- Every weakly fair execution of the kernel ends with every token's expert in the result, the arguments unchanged. -/
theorem kernel_run : θ_run defs (onTc (τ := τ) (main (F := Ideal))) ⟨m, fun _ => 0, ρ⟩ fun r => ∀ c : Dev nD,
      r.2.mem ((c : Thread nD τ).loc main_v1) = column m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (by
        unfold Pipeline.afterTail₀
        simp only [List.flatten_cons, List.flatten_nil, List.append_nil]
        after_results
        exact (congrArg (fun v : IVec S8x8x256 32 => shapeCast S16384x1 v shapeCasts_S8x8x256_S16384x1)
          (((dats m 0 c).withArrays_arrAt sharedIn0 (V0 m c) (A_eq m c) 9).trans (arr_eq m c))).trans (reshape_eq m c)),
      ((h c).1 7).trans ((dats m 0 c).arrAt_in 7 rfl _), ((h c).1 8).trans ((dats m 0 c).arrAt_in 8 rfl _)⟩)
    (run_main m ρ)

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Launch
public import Idealize.ShloMosaic.Adequacy
public import Idealize.ShloMosaic.Init

@[expose] public section

noncomputable section

namespace Cert.Proof

open Idealize.ShloMosaic Idealize.SL.Sem Cert.Kernel

/-- The kernel terminates with its arguments unchanged and every counter at zero. -/
theorem frame_p : Cert.quiescent_Kernel := fun m ρ _ => Cert.Kernel.Gen.frame m ρ

/-- The same from the memories where no token's best score is held twice. -/
theorem frame_p_pre : Cert.quiescent_Kernel_pre_no_tie := fun m ρ _ => Cert.Kernel.Gen.frame m ρ

/-- The same of the idealized kernel. -/
theorem frame_pi : Cert.quiescent_KernelIdeal := fun m ρ _ => Cert.KernelIdeal.Gen.frame m ρ

/-- The reference terminates with its arguments unchanged and every counter at zero: it has no counter. -/
theorem frame_ri : Cert.quiescent_ReferenceIdeal := fun m ρ _ =>
  (θ_run Cert.ReferenceIdeal.defs _ _).mono (fun r h => ⟨fun c => ⟨(h c).2.1, (h c).2.2⟩,
    Idealize.ShloMosaic.sem_eq_zero_of_no_sems (by decide) r.2⟩) (Cert.Router.Ref.run (F := Ideal) m ρ)

/-- The same from the memories where no token's best score is held twice. -/
theorem frame_ri_pre : Cert.quiescent_ReferenceIdeal_pre_no_tie := fun m ρ _ => frame_ri m ρ trivial

/-- The column the kernel leaves is the reference's answer. -/
theorem answer_eq (m : (ℓ : Loc Cert.KernelIdeal.nD Cert.KernelIdeal.τ Cert.KernelIdeal.sig) → Buf (Elt Ideal) ℓ) (c : Dev Cert.KernelIdeal.nD) :
    Cert.Router.Ref.answer (F := Ideal) (Cert.Router.toks m c) (Cert.Router.exps m c) = Cert.Router.column m c := by
  funext i
  idx_vars i
  rw [Cert.Router.ref_answer]
  rfl

/-- The idealized kernel and the reference end with the same column: every token's expert. -/
theorem same_column : Cert.algebraic_KernelIdeal_ReferenceIdeal := fun m ρ m' ρ' _ hagree =>
  ⟨fun c => Cert.Router.column m c, Cert.Router.kernel_run m ρ,
    (θ_run Cert.ReferenceIdeal.defs _ _).mono (fun _ h c => ⟨(h c).1.trans (by
        rw [(hagree c).1, (hagree c).2]
        exact answer_eq m c), (h c).2⟩)
      (Cert.Router.Ref.run (F := Ideal) m' ρ')⟩

/-- All the claims. -/
theorem claim : Cert.Claim :=
  ⟨Cert.Kernel.Gen.facts, Cert.KernelIdeal.Gen.facts, Cert.ReferenceIdeal.Gen.facts, Cert.Pre_no_tie.Gen.facts,
    frame_p, frame_p_pre, frame_pi, frame_ri, frame_ri_pre, trivial, same_column⟩

end Cert.Proof

end
